-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x256x32x32 : Shape := ⟨4, ![64, 256, 32, 32]⟩
abbrev S1024x256x256 : Shape := ⟨3, ![1024, 256, 256]⟩
abbrev S1024x256 : Shape := ⟨2, ![1024, 256]⟩
abbrev S64x32x32x256 : Shape := ⟨4, ![64, 32, 32, 256]⟩
abbrev S64x1024x256 : Shape := ⟨3, ![64, 1024, 256]⟩
abbrev S64x32x256 : Shape := ⟨3, ![64, 32, 256]⟩
abbrev S32x256x256 : Shape := ⟨3, ![32, 256, 256]⟩
abbrev S32x256 : Shape := ⟨2, ![32, 256]⟩
abbrev S2x2296x128 : Shape := ⟨3, ![2, 2296, 128]⟩
abbrev S2x2552x128 : Shape := ⟨3, ![2, 2552, 128]⟩
abbrev S1x32x256 : Shape := ⟨3, ![1, 32, 256]⟩
abbrev S32x128 : Shape := ⟨2, ![32, 128]⟩
abbrev S1x32x128 : Shape := ⟨3, ![1, 32, 128]⟩
abbrev S1x64x128 : Shape := ⟨3, ![1, 64, 128]⟩
abbrev S64x128 : Shape := ⟨2, ![64, 128]⟩
abbrev S64x256 : Shape := ⟨2, ![64, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S64x256x32x32, .f32⟩
  | .hbm, ⟨1, _⟩ => ⟨S1024x256x256, .f32⟩
  | .hbm, ⟨2, _⟩ => ⟨S1024x256, .f32⟩
  | .hbm, ⟨3, _⟩ => ⟨S64x32x32x256, .f32⟩
  | .hbm, ⟨4, _⟩ => ⟨S64x1024x256, .f32⟩
  | .hbm, ⟨5, _⟩ => ⟨S64x1024x256, .f32⟩
  | .hbm, ⟨6, _⟩ => ⟨S64x32x32x256, .f32⟩
  | .hbm, ⟨7, _⟩ => ⟨S64x256x32x32, .f32⟩
  | .local _ .vmem, ⟨0, _⟩ => ⟨S64x32x256, .f32⟩
  | .local _ .vmem, ⟨1, _⟩ => ⟨S64x32x256, .f32⟩
  | .local _ .vmem, ⟨2, _⟩ => ⟨S32x256x256, .f32⟩
  | .local _ .vmem, ⟨3, _⟩ => ⟨S32x256x256, .f32⟩
  | .local _ .vmem, ⟨4, _⟩ => ⟨S32x256, .f32⟩
  | .local _ .vmem, ⟨5, _⟩ => ⟨S32x256, .f32⟩
  | .local _ .vmem, ⟨6, _⟩ => ⟨S64x32x256, .f32⟩
  | .local _ .vmem, ⟨7, _⟩ => ⟨S64x32x256, .f32⟩
  | .local _ .vmem, ⟨8, _⟩ => ⟨S2x2296x128, .f32⟩
  | .local _ .vmem, ⟨9, _⟩ => ⟨S2x2552x128, .f32⟩
  | _, _ => ⟨S64x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x256x32x32 : Shape := ⟨4, ![64, 256, 32, 32]⟩
abbrev S1024x256x256 : Shape := ⟨3, ![1024, 256, 256]⟩
abbrev S1024x256 : Shape := ⟨2, ![1024, 256]⟩
abbrev S64x32x32x256 : Shape := ⟨4, ![64, 32, 32, 256]⟩
abbrev S64x1024x256 : Shape := ⟨3, ![64, 1024, 256]⟩
abbrev S1024x256x64 : Shape := ⟨3, ![1024, 256, 64]⟩
abbrev S1x1024x256 : Shape := ⟨3, ![1, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S64x256x32x32, .f32⟩
  | .hbm, ⟨1, _⟩ => ⟨S1024x256x256, .f32⟩
  | .hbm, ⟨2, _⟩ => ⟨S1024x256, .f32⟩
  | .hbm, ⟨3, _⟩ => ⟨S64x32x32x256, .f32⟩
  | .hbm, ⟨4, _⟩ => ⟨S64x1024x256, .f32⟩
  | .hbm, ⟨5, _⟩ => ⟨S1024x256x64, .f32⟩
  | .hbm, ⟨6, _⟩ => ⟨S64x1024x256, .f32⟩
  | .hbm, ⟨7, _⟩ => ⟨S1x1024x256, .f32⟩
  | .hbm, ⟨8, _⟩ => ⟨S64x1024x256, .f32⟩
  | .hbm, ⟨9, _⟩ => ⟨S64x1024x256, .f32⟩
  | .hbm, ⟨10, _⟩ => ⟨S64x32x32x256, .f32⟩
  | .hbm, ⟨11, _⟩ => ⟨S64x256x32x32, .f32⟩
  | _, _ => ⟨S64x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Program.lean ====
/- The kernel's body as three sweeps over symbolic blocks.

   The printed body is one long sequence of loads and stores with every index written out. Here the same sequence
   is written as three loops: 64 input blocks (one per batch row), 32 product blocks (one per position of the tile)
   and 64 output blocks (one per batch row). `body_eq` says that the printed body is this program; everything after
   it is proved once for a block with a variable index. -/
module

public import proofs.«01_k».proof.Proof.Gen.KernelIdeal.Frame.Runs
public import Idealize.ShloMosaic.Lib.Tactic

@[expose] public section

noncomputable section

namespace Cert.Proof

open Idealize.ShloMosaic Idealize.SL.Sem Idealize.ShloMosaic.Tactic
open Cert.KernelIdeal Cert.KernelIdeal.Gen

variable {F : FTy → Type} [FloatOps F]

/-- The kernel's programs: those of the certificate's effects, ending in no value. -/
abbrev Body (F : FTy → Type) [FloatOps F] : Type _ := Prog (TpuEff nD τ sig (Elt F) Λ₀ .tc) PUnit

/-- `count` blocks in a row, from block `start` on. -/
def sweep {N : ℕ} (block : (j : ℕ) → j < N → Body F) : (count start : ℕ) → start + count = N → Body F
  | 0, _, _ => .ret ⟨⟩
  | count + 1, start, h =>
    (block start (by omega)).bind fun _ => sweep block count (start + 1) (by omega)

/-! ## The rectangles the blocks address -/

/-- Batch row `b` of the tile's input (and of its output). -/
def rowRect (b : ℕ) (hb : b < 64) : Rect S64x32x256 :=
  Rect.unit ![b, 0, 0] S1x32x256.size (fun a => by fin_cases a <;> simp <;> omega)

/-- In half `h` of the first scratch, the rows that batch row `b` is spread over: one of every 72. -/
def spreadIn (h b : ℕ) (hh : h < 2) (hb : b < 64) : Rect S2x2296x128 :=
  ⟨⟨![h, b, 0], S1x32x128.size, ![1, 72, 1], fun a => by fin_cases a <;> simp <;> omega⟩,
    fun a => by fin_cases a <;> simp⟩

/-- In half `h` of the first scratch, the 64 rows of position `g`. -/
def packIn (h g : ℕ) (hh : h < 2) (hg : g < 32) : Rect S2x2296x128 :=
  Rect.unit ![h, g * 72, 0] S1x64x128.size (fun a => by fin_cases a <;> simp <;> omega)

/-- Position `g`'s weight matrix. -/
def weightRect (g : ℕ) (hg : g < 32) : Rect S32x256x256 :=
  Rect.unit ![g, 0, 0] S1x256x256.size (fun a => by fin_cases a <;> simp <;> omega)

/-- Position `g`'s bias row. -/
def biasRect (g : ℕ) (hg : g < 32) : Rect S32x256 :=
  Rect.unit ![g, 0] S1x256.size (fun a => by fin_cases a <;> simp <;> omega)

/-- In half `h` of the second scratch, the rows that position `g` is spread over: one of every 40. -/
def spreadOut (h g : ℕ) (hh : h < 2) (hg : g < 32) : Rect S2x2552x128 :=
  ⟨⟨![h, g, 0], S1x64x128.size, ![1, 40, 1], fun a => by fin_cases a <;> simp <;> omega⟩,
    fun a => by fin_cases a <;> simp⟩

/-- In half `h` of the second scratch, the 32 rows of batch row `b`. -/
def packOut (h b : ℕ) (hh : h < 2) (hb : b < 64) : Rect S2x2552x128 :=
  Rect.unit ![h, b * 40, 0] S1x32x128.size (fun a => by fin_cases a <;> simp <;> omega)

/-! ## What the blocks compute -/

/-- The first 128 channels of a batch row. -/
def rowLow (v : Vec F S1x32x256 .f32) : FVec F S1x32x128 .f32 :=
  shapeCast S1x32x128 (extractStridedSlice S32x128 ![0, 0] (shapeCast S32x256 v shapeCasts_S1x32x256_S32x256)
    slices_S32x256_o0_0_S32x128) shapeCasts_S32x128_S1x32x128

/-- The last 128 channels of a batch row. -/
def rowHigh (v : Vec F S1x32x256 .f32) : FVec F S1x32x128 .f32 :=
  shapeCast S1x32x128 (extractStridedSlice S32x128 ![0, 128] (shapeCast S32x256 v shapeCasts_S1x32x256_S32x256)
    slices_S32x256_o0_128_S32x128) shapeCasts_S32x128_S1x32x128

/-- The product at one position: the 64 rows joined from their two halves, times the weight matrix, plus the bias. -/
def product (lo hi : Vec F S1x64x128 .f32) (w : Vec F S1x256x256 .f32) (b : Vec F S1x256 .f32) : FVec F S64x256 .f32 :=
  addf (matmul dot_S64x256_S256x256_S64x256_1_1_0_0_n_n none
      (concatenate S64x256 1 [⟨S64x128, shapeCast S64x128 lo shapeCasts_S1x64x128_S64x128⟩,
        ⟨S64x128, shapeCast S64x128 hi shapeCasts_S1x64x128_S64x128⟩] concatenates_S64x128_S64x128_S64x256_d1)
      (shapeCast S256x256 w shapeCasts_S1x256x256_S256x256) (constant S64x256 .f32 0x00000000#32))
    (broadcastTo S64x256 b broadcasts_S1x256_S64x256)

/-- The first 128 output channels of a product. -/
def productLow (p : FVec F S64x256 .f32) : FVec F S1x64x128 .f32 :=
  shapeCast S1x64x128 (extractStridedSlice S64x128 ![0, 0] p slices_S64x256_o0_0_S64x128) shapeCasts_S64x128_S1x64x128

/-- The last 128 output channels of a product. -/
def productHigh (p : FVec F S64x256 .f32) : FVec F S1x64x128 .f32 :=
  shapeCast S1x64x128 (extractStridedSlice S64x128 ![0, 128] p slices_S64x256_o0_128_S64x128) shapeCasts_S64x128_S1x64x128

/-- A batch row of the output, joined from its two halves. -/
def joined (lo hi : Vec F S1x32x128 .f32) : FVec F S1x32x256 .f32 :=
  shapeCast S1x32x256 (concatenate S32x256 1 [⟨S32x128, shapeCast S32x128 lo shapeCasts_S1x32x128_S32x128⟩,
    ⟨S32x128, shapeCast S32x128 hi shapeCasts_S1x32x128_S32x128⟩] concatenates_S32x128_S32x128_S32x256_d1)
    shapeCasts_S32x256_S1x32x256

/-! ## The blocks -/

section Blocks

variable (arg1 : Memref sig .tc .vmem S64x32x256 .f32) (arg2 : Memref sig .tc .vmem S32x256x256 .f32)
  (arg3 : Memref sig .tc .vmem S32x256 .f32) (arg4 : Memref sig .tc .vmem S64x32x256 .f32)
  (arg5 : Memref sig .tc .vmem S2x2296x128 .f32) (arg6 : Memref sig .tc .vmem S2x2552x128 .f32)

/-- Batch row `b` is read and spread over the first scratch, half by half (the rows written are read first; what is
    read is not used). -/
def inBlock (b : ℕ) (hb : b < 64) : Body F :=
  .op (.load arg1 (rowRect b hb).toLoadRect (View.loadsAt_vmem h_S1x32x256)) fun v =>
  .op (.load arg5 (spreadIn 0 b (by decide) hb).toLoadRect (View.loadsAt_vmem h_S1x32x128)) fun _ =>
  .op (.store arg5 (spreadIn 0 b (by decide) hb) (rowLow v) Finset.univ
    (View.stores_vmem_bits_univ h_S1x32x128 rfl) (.inl rfl)) fun _ =>
  .op (.load arg5 (spreadIn 1 b (by decide) hb).toLoadRect (View.loadsAt_vmem h_S1x32x128)) fun _ =>
  .op (.store arg5 (spreadIn 1 b (by decide) hb) (rowHigh v) Finset.univ
    (View.stores_vmem_bits_univ h_S1x32x128 rfl) (.inl rfl)) fun _ => .ret ⟨⟩

/-- Position `g`'s rows, weights and bias are read, multiplied, and the product spread over the second scratch. -/
def dotBlock (g : ℕ) (hg : g < 32) : Body F :=
  .op (.load arg5 (packIn 0 g (by decide) hg).toLoadRect (View.loadsAt_vmem h_S1x64x128)) fun lo =>
  .op (.load arg5 (packIn 1 g (by decide) hg).toLoadRect (View.loadsAt_vmem h_S1x64x128)) fun hi =>
  .op (.load arg2 (weightRect g hg).toLoadRect (View.loadsAt_vmem h_S1x256x256)) fun w =>
  .op (.load arg3 (biasRect g hg).toLoadRect (View.loadsAt_vmem h_S1x256)) fun b =>
  .op (.load arg6 (spreadOut 0 g (by decide) hg).toLoadRect (View.loadsAt_vmem h_S1x64x128)) fun _ =>
  .op (.store arg6 (spreadOut 0 g (by decide) hg) (productLow (product lo hi w b)) Finset.univ
    (View.stores_vmem_bits_univ h_S1x64x128 rfl) (.inl rfl)) fun _ =>
  .op (.load arg6 (spreadOut 1 g (by decide) hg).toLoadRect (View.loadsAt_vmem h_S1x64x128)) fun _ =>
  .op (.store arg6 (spreadOut 1 g (by decide) hg) (productHigh (product lo hi w b)) Finset.univ
    (View.stores_vmem_bits_univ h_S1x64x128 rfl) (.inl rfl)) fun _ => .ret ⟨⟩

/-- Batch row `b` of the products is read back and stored to the output. -/
def outBlock (b : ℕ) (hb : b < 64) : Body F :=
  .op (.load arg6 (packOut 0 b (by decide) hb).toLoadRect (View.loadsAt_vmem h_S1x32x128)) fun lo =>
  .op (.load arg6 (packOut 1 b (by decide) hb).toLoadRect (View.loadsAt_vmem h_S1x32x128)) fun hi =>
  .op (.load arg4 (rowRect b hb).toLoadRect (View.loadsAt_vmem h_S1x32x256)) fun _ =>
  .op (.store arg4 (rowRect b hb) (joined lo hi) Finset.univ
    (View.stores_vmem_bits_univ h_S1x32x256 rfl) (.inl rfl)) fun _ => .ret ⟨⟩

/-- The body: the three sweeps in order. -/
def body : Body F :=
  (sweep (inBlock arg1 arg5) 64 0 rfl).bind fun _ =>
  (sweep (dotBlock arg2 arg3 arg5 arg6) 32 0 rfl).bind fun _ =>
  sweep (outBlock arg4 arg6) 64 0 rfl

/-- The printed body is the three sweeps. -/
theorem body_eq (i : grid0.Coords) (h1 : arg1.IsWhole) (h2 : arg2.IsWhole) (h3 : arg3.IsWhole) (h4 : arg4.IsWhole)
    (h5 : arg5.IsWhole) (h6 : arg6.IsWhole) :
    cc0_regroup_conv_cl (F := F) i arg1 h1 arg2 h2 arg3 h3 arg4 h4 arg5 h5 arg6 h6
      = body arg1 arg2 arg3 arg4 arg5 arg6 := by
  sl_kernel_rfl

end Blocks

end Cert.Proof

end
-- ==== Proof.Memory.lean ====
/- Loads and stores by what a buffer reads.

   A buffer is held as the array `X` read through it. A load through a rectangle gives `X` on the rectangle; a store
   leaves the payload on the rectangle and `X` elsewhere (`stored`). Nothing is said here about how a buffer is laid
   out. -/
module

public import proofs.«01_k».proof.Proof.Program

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- `X` with the payload `w` over the rectangle `r`. -/
def stored {s : Shape} {α : Type} (r : Rect s) (w : r.shape.Idx → α) (X : s.Idx → α) : s.Idx → α :=
  open Classical in fun y => if h : ∃ j, r.emb j = y then w h.choose else X y

/-- On the rectangle the payload is read, -/
theorem stored_emb {s : Shape} {α : Type} (r : Rect s) (w : r.shape.Idx → α) (X : s.Idx → α) (j : r.shape.Idx) :
    stored r w X (r.emb j) = w j := by
  have h : ∃ i, r.emb i = r.emb j := ⟨j, rfl⟩
  unfold stored
  rw [dif_pos h, r.emb.injective h.choose_spec]

/-- and off it what was there before. -/
theorem stored_off {s : Shape} {α : Type} (r : Rect s) (w : r.shape.Idx → α) (X : s.Idx → α) (y : s.Idx)
    (h : ∀ j, r.emb j ≠ y) : stored r w X y = X y := by
  unfold stored
  rw [dif_neg (fun ⟨j, hj⟩ => h j hj)]

/-- What a view reads after an unmasked write through one of its rectangles. -/
theorem read_write_stored {sp : Space} {s : Shape} {e : EltTy} (v : View sig .tc sp s e) (r : Rect s)
    (f : v.ty.Contents (Elt F)) (w : r.shape.Idx → Elt F e) :
    v.read (Elt F) ((v.slice r).write (Elt F) f w Finset.univ) = stored r w (v.read (Elt F) f) := by
  funext y
  by_cases h : ∃ j, r.emb j = y
  · obtain ⟨j, rfl⟩ := h
    rw [stored_emb, View.read_slice_write_emb r f w (Finset.mem_univ j)]
  · rw [stored_off r w _ y fun j hj => h ⟨j, hj⟩]
    refine View.read_slice_write_of_not_mem r f w _ fun hm => h ?_
    obtain ⟨j, -, hj⟩ := Finset.mem_map.mp hm
    exact ⟨j, hj⟩

section Rules

variable (c : Dev nD) {s : Shape} {e : EltTy} {m : Memref sig .tc .vmem s e} {r : Rect s}

/-- The body's running, to a continuation. -/
abbrev runs (c : Dev nD) (p : Body F) (Q : PUnit → sProp 𝕄) : sProp 𝕄 :=
  wp frame (wpE (defs₀ (F := F)) Variants.none (c : Thread nD τ) none) Set.univ p Q

/-- A load: the program goes on with the array on the rectangle. -/
theorem load_owns {hl : m.view.LoadsAt r.toLoadRect} {k : (r.shape.Idx → Elt F e) → Body F} {X : s.Idx → Elt F e}
    {Q : PUnit → sProp 𝕄} :
    owns (c : Thread nD τ) m fullShare X
      ⊢ iprop((owns (c : Thread nD τ) m fullShare X -∗ runs c (k fun j => X (r.emb j)) Q)
          -∗ runs c (.op (.load m r.toLoadRect hl) k) Q) := by
  unfold owns
  iintro ⟨%f, %hf, H⟩ Hk
  iapply (wp_load Variants.none (c : Thread nD τ) none Set.univ (m := m) (r := r.toLoadRect) (k := k) (f := f) (Q := Q)
    (S := m.view.set) (View.setOn_subset_set _ _)) $$ H
  iintro H
  have hv : m.view.readAt (Elt F) r.toLoadRect f = fun j => X (r.emb j) := by subst hf; rfl
  rw [hv]
  iapply Hk
  iexists f
  isplitr
  · ipureintro; exact hf
  iexact H

/-- A store: the program goes on with the payload put over the array. -/
theorem store_owns {w : r.shape.Idx → Elt F e} {hx : (m.access r).Stores Finset.univ}
    {hm : Finset.univ = Finset.univ ∨ ∀ a, r.stride a = 1} {k : PUnit → Body F} {X : s.Idx → Elt F e}
    {Q : PUnit → sProp 𝕄} :
    owns (c : Thread nD τ) m fullShare X
      ⊢ iprop((owns (c : Thread nD τ) m fullShare (stored r w X) -∗ runs c (k ⟨⟩) Q)
          -∗ runs c (.op (.store m r w Finset.univ hx hm) k) Q) := by
  unfold owns
  iintro ⟨%f, %hf, H⟩ Hk
  iapply (wp_store Variants.none (c : Thread nD τ) none Set.univ (m := m) (r := r) (w := w) (Mk := Finset.univ) (hx := hx) (hm := hm)
    (k := k) (f := f) (Q := Q) (S := m.view.set) (by rw [View.setOn_univ]; exact View.set_slice_subset _ r)) $$ H
  iintro H
  iapply Hk
  iexists _
  isplitr
  swap
  · iexact H
  ipureintro
  subst hf
  exact read_write_stored m.view r f w

end Rules

end Cert.Proof

end
-- ==== Proof.Values.lean ====
/- What the blocks compute, read at an index.

   Every payload is a re-indexing of what was loaded; only the product computes. `positionProduct` is the product at
   one position written over the tile's input blocks themselves. -/
module

public import proofs.«01_k».proof.Proof.Program
public import Idealize.ShloMosaic.Lib.PointwiseCore

@[expose] public section

noncomputable section

namespace Cert.Proof

open Idealize.ShloMosaic Idealize.ShloMosaic.Tactic
open Cert.KernelIdeal Cert.KernelIdeal.Gen

variable {F : FTy → Type} [FloatOps F]

/-- Channel `c` of half `h`. -/
abbrev chan (h : Fin 2) (c : Fin 128) : Fin 256 := ⟨128 * h + c, by omega⟩

theorem rowLow_apply (v : Vec F S1x32x256 .f32) (j : S1x32x128.Idx) :
    rowLow v j = v (ix3 0 (j 1) (chan 0 (j 2))) := by
  pointwise [rowLow]
  simp [chan]

theorem rowHigh_apply (v : Vec F S1x32x256 .f32) (j : S1x32x128.Idx) :
    rowHigh v j = v (ix3 0 (j 1) (chan 1 (j 2))) := by
  pointwise [rowHigh]
  simp [chan]

theorem productLow_apply (p : FVec F S64x256 .f32) (j : S1x64x128.Idx) :
    productLow p j = p (ix2 (j 1) (chan 0 (j 2))) := by
  pointwise [productLow]
  simp [chan]

theorem productHigh_apply (p : FVec F S64x256 .f32) (j : S1x64x128.Idx) :
    productHigh p j = p (ix2 (j 1) (chan 1 (j 2))) := by
  pointwise [productHigh]
  simp [chan]

theorem joined_apply (lo hi : Vec F S1x32x128 .f32) (j : S1x32x256.Idx) :
    joined lo hi j = if h : (j 2 : ℕ) < 128 then lo (ix3 0 (j 1) ⟨j 2, h⟩) else hi (ix3 0 (j 1) ⟨j 2 - 128, by have : (j 2 : ℕ) < 256 := (j 2).isLt; omega⟩) := by
  pointwise [joined]

/-! ## The product at a position, over the tile's blocks -/

/-- The rows of position `g`: one per batch row. -/
def positionRows (x : Vec F S64x32x256 .f32) (g : Fin 32) : FVec F S64x256 .f32 := fun y => x (ix3 (y 0) g (y 1))

/-- The weight matrix of position `g`. -/
def positionWeight (w : Vec F S32x256x256 .f32) (g : Fin 32) : FVec F S256x256 .f32 := fun y => w (ix3 g (y 0) (y 1))

/-- The bias of position `g`. -/
def positionBias (b : Vec F S32x256 .f32) (g : Fin 32) : FVec F S1x256 .f32 := fun y => b (ix2 g (y 1))

/-- The product at position `g`. -/
def positionProduct (x : Vec F S64x32x256 .f32) (w : Vec F S32x256x256 .f32) (b : Vec F S32x256 .f32) (g : Fin 32) :
    FVec F S64x256 .f32 :=
  addf (matmul dot_S64x256_S256x256_S64x256_1_1_0_0_n_n none (positionRows x g) (positionWeight w g)
      (constant S64x256 .f32 0x00000000#32))
    (broadcastTo S64x256 (positionBias b g) broadcasts_S1x256_S64x256)

/-- What the body leaves in the output's block. -/
def tileOut (x : Vec F S64x32x256 .f32) (w : Vec F S32x256x256 .f32) (b : Vec F S32x256 .f32) : Vec F S64x32x256 .f32 :=
  fun y => positionProduct x w b (y 1) (ix2 (y 0) (y 2))

/-- The block's product is the position's, when the loaded pieces are the position's rows, weights and bias. -/
theorem product_eq (x : Vec F S64x32x256 .f32) (w : Vec F S32x256x256 .f32) (b : Vec F S32x256 .f32) (g : Fin 32)
    {lo hi : Vec F S1x64x128 .f32} {wv : Vec F S1x256x256 .f32} {bv : Vec F S1x256 .f32}
    (hlo : ∀ j, lo j = x (ix3 (j 1) g (chan 0 (j 2)))) (hhi : ∀ j, hi j = x (ix3 (j 1) g (chan 1 (j 2))))
    (hw : ∀ j, wv j = w (ix3 g (j 1) (j 2))) (hb : ∀ j, bv j = b (ix2 g (j 1))) :
    product lo hi wv bv = positionProduct x w b g := by
  have e₁ : concatenate S64x256 1 [⟨S64x128, shapeCast S64x128 lo shapeCasts_S1x64x128_S64x128⟩,
      ⟨S64x128, shapeCast S64x128 hi shapeCasts_S1x64x128_S64x128⟩] concatenates_S64x128_S64x128_S64x256_d1
        = positionRows x g := by
    funext y
    pointwise [positionRows]
    split
    · rename_i h
      rw [hlo]
      congr 2
      exact Fin.ext (by simp [chan])
    · rename_i h
      rw [hhi]
      congr 2
      exact Fin.ext (by simp only [chan, ix3_2]; simp; omega)
  have e₂ : shapeCast S256x256 wv shapeCasts_S1x256x256_S256x256 = positionWeight w g := by
    funext y
    pointwise [positionWeight, hw]
  have e₃ : bv = positionBias b g := funext hb
  unfold product positionProduct
  rw [e₁, e₂, e₃]

end Cert.Proof

end
-- ==== Proof.Blocks.lean ====
/- What each sweep keeps.

   Three facts, each about a buffer after `n` blocks: the first scratch holds the first `n` batch rows (`Spread`), the
   second the products of the first `n` positions (`Collected`), the output the first `n` batch rows (`Done`). A block
   takes `n` to `n + 1`: it writes the rectangle of its own index, and the rectangles of two indices never meet, a
   stride of 72 being at least the 64 batch rows and one of 40 at least the 32 positions. -/
module

public import proofs.«01_k».proof.Proof.Memory
public import proofs.«01_k».proof.Proof.Values

@[expose] public section

noncomputable section

namespace Cert.Proof

open Idealize.ShloMosaic Idealize.ShloMosaic.Tactic
open Cert.KernelIdeal Cert.KernelIdeal.Gen

variable {F : FTy → Type} [FloatOps F]

/-- Position `g` of batch row `b` in a half of the first scratch. -/
abbrev inCell (h : Fin 2) (b : Fin 64) (g : Fin 32) (c : Fin 128) : S2x2296x128.Idx :=
  ix3 h (⟨72 * g + b, by omega⟩ : Fin 2296) c

/-- Position `g` of batch row `b` in a half of the second scratch. -/
abbrev outCell (h : Fin 2) (b : Fin 64) (g : Fin 32) (c : Fin 128) : S2x2552x128.Idx :=
  ix3 h (⟨40 * b + g, by omega⟩ : Fin 2552) c

/-- The first scratch holds the first `n` batch rows. -/
def Spread (x : Vec F S64x32x256 .f32) (n : ℕ) (X : Vec F S2x2296x128 .f32) : Prop :=
  ∀ (b : Fin 64) (g : Fin 32) (h : Fin 2) (c : Fin 128), (b : ℕ) < n → X (inCell h b g c) = x (ix3 b g (chan h c))

/-- The second scratch holds the products of the first `n` positions. -/
def Collected (x : Vec F S64x32x256 .f32) (w : Vec F S32x256x256 .f32) (bias : Vec F S32x256 .f32) (n : ℕ)
    (X : Vec F S2x2552x128 .f32) : Prop :=
  ∀ (b : Fin 64) (g : Fin 32) (h : Fin 2) (c : Fin 128), (g : ℕ) < n →
    X (outCell h b g c) = positionProduct x w bias g (ix2 b (chan h c))

/-- The output holds its first `n` batch rows. -/
def Done (x : Vec F S64x32x256 .f32) (w : Vec F S32x256x256 .f32) (bias : Vec F S32x256 .f32) (n : ℕ)
    (X : Vec F S64x32x256 .f32) : Prop :=
  ∀ (b : Fin 64) (g : Fin 32) (o : Fin 256), (b : ℕ) < n → X (ix3 b g o) = tileOut x w bias (ix3 b g o)

/-! ## Where the rectangles' elements lie -/

/-- An element of a rectangle of a rank-3 buffer, by its three coordinates. -/
theorem emb_eq_ix3 {n0 n1 n2 : ℕ} (r : Rect ⟨3, ![n0, n1, n2]⟩) (j : r.shape.Idx) (y : (⟨3, ![n0, n1, n2]⟩ : Shape).Idx)
    (h0 : r.off 0 + r.stride 0 * (j 0 : ℕ) = y 0) (h1 : r.off 1 + r.stride 1 * (j 1 : ℕ) = y 1)
    (h2 : r.off 2 + r.stride 2 * (j 2 : ℕ) = y 2) : r.emb j = y := by
  funext a
  exact match a with
    | 0 => Fin.ext h0
    | 1 => Fin.ext h1
    | 2 => Fin.ext h2

theorem spreadIn_emb (h : Fin 2) (b : Fin 64) (j : S1x32x128.Idx) : (spreadIn h b h.2 b.2).emb j = inCell h b (j 1) (j 2) := by
  have h0 : (j 0 : ℕ) < 1 := (j 0).2
  refine emb_eq_ix3 (spreadIn h b h.2 b.2) j _ ?_ ?_ ?_
  · change (h : ℕ) + 1 * (j 0 : ℕ) = h; omega
  · change (b : ℕ) + 72 * (j 1 : ℕ) = 72 * (j 1 : ℕ) + b; omega
  · change 0 + 1 * (j 2 : ℕ) = (j 2 : ℕ); omega

theorem packIn_emb (h : Fin 2) (g : Fin 32) (j : S1x64x128.Idx) : (packIn h g h.2 g.2).emb j = inCell h (j 1) g (j 2) := by
  have h0 : (j 0 : ℕ) < 1 := (j 0).2
  refine emb_eq_ix3 (packIn h g h.2 g.2) j _ ?_ ?_ ?_
  · change (h : ℕ) + 1 * (j 0 : ℕ) = h; omega
  · change (g : ℕ) * 72 + 1 * (j 1 : ℕ) = 72 * g + (j 1 : ℕ); omega
  · change 0 + 1 * (j 2 : ℕ) = (j 2 : ℕ); omega

theorem spreadOut_emb (h : Fin 2) (g : Fin 32) (j : S1x64x128.Idx) : (spreadOut h g h.2 g.2).emb j = outCell h (j 1) g (j 2) := by
  have h0 : (j 0 : ℕ) < 1 := (j 0).2
  refine emb_eq_ix3 (spreadOut h g h.2 g.2) j _ ?_ ?_ ?_
  · change (h : ℕ) + 1 * (j 0 : ℕ) = h; omega
  · change (g : ℕ) + 40 * (j 1 : ℕ) = 40 * (j 1 : ℕ) + g; omega
  · change 0 + 1 * (j 2 : ℕ) = (j 2 : ℕ); omega

theorem packOut_emb (h : Fin 2) (b : Fin 64) (j : S1x32x128.Idx) : (packOut h b h.2 b.2).emb j = outCell h b (j 1) (j 2) := by
  have h0 : (j 0 : ℕ) < 1 := (j 0).2
  refine emb_eq_ix3 (packOut h b h.2 b.2) j _ ?_ ?_ ?_
  · change (h : ℕ) + 1 * (j 0 : ℕ) = h; omega
  · change (b : ℕ) * 40 + 1 * (j 1 : ℕ) = 40 * b + (j 1 : ℕ); omega
  · change 0 + 1 * (j 2 : ℕ) = (j 2 : ℕ); omega

theorem rowRect_emb (b : Fin 64) (j : S1x32x256.Idx) : (rowRect b b.2).emb j = ix3 b (j 1) (j 2) := by
  have h0 : (j 0 : ℕ) < 1 := (j 0).2
  refine emb_eq_ix3 (rowRect b b.2) j _ ?_ ?_ ?_
  · change (b : ℕ) + 1 * (j 0 : ℕ) = b; omega
  · change 0 + 1 * (j 1 : ℕ) = (j 1 : ℕ); omega
  · change 0 + 1 * (j 2 : ℕ) = (j 2 : ℕ); omega

theorem weightRect_emb (g : Fin 32) (j : S1x256x256.Idx) : (weightRect g g.2).emb j = ix3 g (j 1) (j 2) := by
  have h0 : (j 0 : ℕ) < 1 := (j 0).2
  refine emb_eq_ix3 (weightRect g g.2) j _ ?_ ?_ ?_
  · change (g : ℕ) + 1 * (j 0 : ℕ) = g; omega
  · change 0 + 1 * (j 1 : ℕ) = (j 1 : ℕ); omega
  · change 0 + 1 * (j 2 : ℕ) = (j 2 : ℕ); omega

theorem biasRect_emb (g : Fin 32) (j : S1x256.Idx) : (biasRect g g.2).emb j = ix2 g (j 1) := by
  have h0 : (j 0 : ℕ) < 1 := (j 0).2
  funext a
  refine Fin.ext ?_
  match a with
  | 0 => change (g : ℕ) + 1 * (j 0 : ℕ) = g; omega
  | 1 => change 0 + 1 * (j 1 : ℕ) = (j 1 : ℕ); omega

/-! ## Two cells are one only when their halves, batch rows and positions are -/

theorem inCell_inj {h h' : Fin 2} {b b' : Fin 64} {g g' : Fin 32} {c c' : Fin 128}
    (e : inCell h b g c = inCell h' b' g' c') : h = h' ∧ b = b' := by
  obtain ⟨e₀, e₁, -⟩ := (ix3_inj _ _ _ _ _ _).1 e
  have := congrArg Fin.val e₁
  simp only at this
  exact ⟨e₀, Fin.ext (by omega)⟩

theorem outCell_inj {h h' : Fin 2} {b b' : Fin 64} {g g' : Fin 32} {c c' : Fin 128}
    (e : outCell h b g c = outCell h' b' g' c') : h = h' ∧ g = g' := by
  obtain ⟨e₀, e₁, -⟩ := (ix3_inj _ _ _ _ _ _).1 e
  have := congrArg Fin.val e₁
  simp only at this
  exact ⟨e₀, Fin.ext (by omega)⟩

/-! ## One block's stores, read at a cell -/

theorem spreadIn_same {h : Fin 2} {b : Fin 64} {pay : S1x32x128.Idx → F .f32} {X : Vec F S2x2296x128 .f32} (g : Fin 32)
    (c : Fin 128) : stored (spreadIn h b h.2 b.2) pay X (inCell h b g c) = pay (ix3 0 g c) :=
  (congrArg (stored (spreadIn h b h.2 b.2) pay X) (spreadIn_emb h b (ix3 0 g c)).symm).trans (stored_emb _ _ _ _)

theorem spreadIn_other {h h' : Fin 2} {b b' : Fin 64} {pay : S1x32x128.Idx → F .f32} {X : Vec F S2x2296x128 .f32}
    (g : Fin 32) (c : Fin 128) (hne : ¬(h = h' ∧ b = b')) :
    stored (spreadIn h b h.2 b.2) pay X (inCell h' b' g c) = X (inCell h' b' g c) :=
  stored_off _ _ _ _ fun j hj => hne (inCell_inj ((spreadIn_emb h b j).symm.trans hj))

theorem spreadOut_same {h : Fin 2} {g : Fin 32} {pay : S1x64x128.Idx → F .f32} {X : Vec F S2x2552x128 .f32} (b : Fin 64)
    (c : Fin 128) : stored (spreadOut h g h.2 g.2) pay X (outCell h b g c) = pay (ix3 0 b c) :=
  (congrArg (stored (spreadOut h g h.2 g.2) pay X) (spreadOut_emb h g (ix3 0 b c)).symm).trans (stored_emb _ _ _ _)

theorem spreadOut_other {h h' : Fin 2} {g g' : Fin 32} {pay : S1x64x128.Idx → F .f32} {X : Vec F S2x2552x128 .f32}
    (b : Fin 64) (c : Fin 128) (hne : ¬(h = h' ∧ g = g')) :
    stored (spreadOut h g h.2 g.2) pay X (outCell h' b g' c) = X (outCell h' b g' c) :=
  stored_off _ _ _ _ fun j hj => hne (outCell_inj ((spreadOut_emb h g j).symm.trans hj))

theorem rowRect_same {b : Fin 64} {pay : S1x32x256.Idx → F .f32} {X : Vec F S64x32x256 .f32} (g : Fin 32)
    (o : Fin 256) : stored (rowRect b b.2) pay X (ix3 b g o) = pay (ix3 0 g o) :=
  (congrArg (stored (rowRect b b.2) pay X) (rowRect_emb b (ix3 0 g o)).symm).trans (stored_emb _ _ _ _)

theorem rowRect_other {b b' : Fin 64} {pay : S1x32x256.Idx → F .f32} {X : Vec F S64x32x256 .f32} (g : Fin 32)
    (o : Fin 256) (hne : b ≠ b') : stored (rowRect b b.2) pay X (ix3 b' g o) = X (ix3 b' g o) :=
  stored_off _ _ _ _ fun j hj => hne ((ix3_inj _ _ _ _ _ _).1 ((rowRect_emb b j).symm.trans hj)).1

/-! ## One block further -/

/-- A batch row's two halves stored, one more batch row is held. -/
theorem Spread.step {x : Vec F S64x32x256 .f32} {b : Fin 64} {X : Vec F S2x2296x128 .f32} (hX : Spread x b X) :
    Spread x (b + 1) (stored (spreadIn 1 b (by decide) b.2) (rowHigh fun j => x ((rowRect b b.2).emb j))
      (stored (spreadIn 0 b (by decide) b.2) (rowLow fun j => x ((rowRect b b.2).emb j)) X)) := by
  intro b' g h c hb
  by_cases hbb : b = b'
  · subst hbb
    match h with
    | 0 =>
      exact (spreadIn_other (h := 1) (b := b) g c (by simp)).trans ((spreadIn_same (h := 0) (b := b) g c).trans
        ((rowLow_apply _ _).trans (congrArg x (rowRect_emb b _))))
    | 1 =>
      exact (spreadIn_same (h := 1) (b := b) g c).trans
        ((rowHigh_apply _ _).trans (congrArg x (rowRect_emb b _)))
  · exact (spreadIn_other (h := 1) (b := b) g c fun e => hbb e.2).trans
      ((spreadIn_other (h := 0) (b := b) g c fun e => hbb e.2).trans
        (hX b' g h c (by have : (b : ℕ) ≠ b' := fun e => hbb (Fin.ext e); omega)))

/-- All batch rows held, the block's product is its position's. -/
theorem Spread.product {x : Vec F S64x32x256 .f32} (w : Vec F S32x256x256 .f32) (bias : Vec F S32x256 .f32)
    (g : Fin 32) {X : Vec F S2x2296x128 .f32} (hX : Spread x 64 X) :
    Cert.Proof.product (fun j => X ((packIn 0 g (by decide) g.2).emb j)) (fun j => X ((packIn 1 g (by decide) g.2).emb j))
      (fun j => w ((weightRect g g.2).emb j)) (fun j => bias ((biasRect g g.2).emb j)) = positionProduct x w bias g :=
  product_eq x w bias g (fun j => (congrArg X (packIn_emb 0 g j)).trans (hX _ _ 0 _ (j 1).2))
    (fun j => (congrArg X (packIn_emb 1 g j)).trans (hX _ _ 1 _ (j 1).2))
    (fun j => congrArg w (weightRect_emb g j)) (fun j => congrArg bias (biasRect_emb g j))

/-- A position's product stored, one more position is held. -/
theorem Collected.step {x : Vec F S64x32x256 .f32} {w : Vec F S32x256x256 .f32} {bias : Vec F S32x256 .f32}
    {g : Fin 32} {X : Vec F S2x2552x128 .f32} (hX : Collected x w bias g X) :
    Collected x w bias (g + 1) (stored (spreadOut 1 g (by decide) g.2) (productHigh (positionProduct x w bias g))
      (stored (spreadOut 0 g (by decide) g.2) (productLow (positionProduct x w bias g)) X)) := by
  intro b g' h c hg
  by_cases hgg : g = g'
  · subst hgg
    match h with
    | 0 =>
      exact (spreadOut_other (h := 1) (g := g) b c (by simp)).trans
        ((spreadOut_same (h := 0) (g := g) b c).trans (productLow_apply _ _))
    | 1 => exact (spreadOut_same (h := 1) (g := g) b c).trans (productHigh_apply _ _)
  · exact (spreadOut_other (h := 1) (g := g) b c fun e => hgg e.2).trans
      ((spreadOut_other (h := 0) (g := g) b c fun e => hgg e.2).trans
        (hX b g' h c (by have : (g : ℕ) ≠ g' := fun e => hgg (Fin.ext e); omega)))

/-- A batch row joined from the collected halves is the output's. -/
theorem Collected.joined {x : Vec F S64x32x256 .f32} {w : Vec F S32x256x256 .f32} {bias : Vec F S32x256 .f32}
    {X : Vec F S2x2552x128 .f32} (hX : Collected x w bias 32 X) (b : Fin 64) (g : Fin 32) (o : Fin 256) :
    Cert.Proof.joined (fun j => X ((packOut 0 b (by decide) b.2).emb j)) (fun j => X ((packOut 1 b (by decide) b.2).emb j))
      (ix3 0 g o) = tileOut x w bias (ix3 b g o) := by
  refine (joined_apply _ _ _).trans ?_
  split
  · rename_i h
    refine (congrArg X (packOut_emb 0 b _)).trans ((hX _ _ 0 _ g.2).trans ?_)
    exact congrArg (fun o => positionProduct x w bias g (ix2 b o)) (Fin.ext (by simp [chan]))
  · rename_i h
    refine (congrArg X (packOut_emb 1 b _)).trans ((hX _ _ 1 _ g.2).trans ?_)
    refine congrArg (fun o => positionProduct x w bias g (ix2 b o)) (Fin.ext ?_)
    simp only [chan, ix3_2] at h ⊢
    simp
    omega

/-- A batch row stored to the output, one more batch row is done. -/
theorem Done.step {x : Vec F S64x32x256 .f32} {w : Vec F S32x256x256 .f32} {bias : Vec F S32x256 .f32}
    {b : Fin 64} {X : Vec F S2x2552x128 .f32} {Y : Vec F S64x32x256 .f32} (hX : Collected x w bias 32 X)
    (hY : Done x w bias b Y) :
    Done x w bias (b + 1) (stored (rowRect b b.2) (joined (fun j => X ((packOut 0 b (by decide) b.2).emb j))
      (fun j => X ((packOut 1 b (by decide) b.2).emb j))) Y) := by
  intro b' g o hb
  by_cases hbb : b = b'
  · subst hbb
    exact (rowRect_same g o).trans (hX.joined b g o)
  · exact (rowRect_other g o hbb).trans
      (hY b' g o (by have : (b : ℕ) ≠ b' := fun e => hbb (Fin.ext e); omega))

end Cert.Proof

end
-- ==== Proof.BodyRun.lean ====
/- The body's triple.

   Each block keeps its sweep's fact, so a sweep of `n` blocks does, and the three sweeps leave the output at `tileOut`
   of the three input blocks, from any contents of the output and of the two scratch buffers. -/
module

public import proofs.«01_k».proof.Proof.Blocks

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One program after another. -/
theorem runs_bind (c : Dev nD) (p : Body F) (k : PUnit → Body F) (Q : PUnit → sProp 𝕄) :
    runs c p (fun x => runs c (k x) Q) ⊢ runs c (p.bind k) Q := by
  unfold runs
  rw [show p.bind k = p >>= k from rfl, wp_bind]

/-- A program's end weakened, under what is held aside. -/
theorem runs_wand (c : Dev nD) (p : Body F) (Q Q' : PUnit → sProp 𝕄) :
    iprop(runs c p Q ∗ ∀ a, Q a -∗ Q' a) ⊢ runs c p Q' := by
  unfold runs
  exact wp_wand_r _ _ _

/-- The end of a program. -/
theorem runs_ret (c : Dev nD) (Q : PUnit → sProp 𝕄) : Q ⟨⟩ ⊢ runs c (.ret ⟨⟩) Q := by
  unfold runs
  rw [wp_ret]
  exact fupd_intro

/-- A sweep keeps what each of its blocks keeps. -/
theorem sweep_runs (c : Dev nD) {N : ℕ} (block : (j : ℕ) → j < N → Body F) (I : ℕ → sProp 𝕄)
    (step : ∀ j hj, I j ⊢ runs c (block j hj) fun _ => I (j + 1)) (count start : ℕ) (h : start + count = N) :
    I start ⊢ runs c (sweep block count start h) fun _ => I N := by
  induction count generalizing start with
  | zero =>
    obtain rfl : start = N := h
    exact runs_ret c fun _ => I start
  | succ count ih =>
    exact ((step start (by omega)).trans
      (wp_mono frame (wpE (defs₀ (F := F)) Variants.none (c : Thread nD τ) none) Set.univ fun _ =>
        ih (start + 1) (by omega))).trans
      (runs_bind c (block start (by omega)) (fun _ => sweep block count (start + 1) (by omega)) fun _ => I N)

section Triples

variable (c : Dev nD)
  (arg1 : Memref sig .tc .vmem S64x32x256 .f32) (arg2 : Memref sig .tc .vmem S32x256x256 .f32)
  (arg3 : Memref sig .tc .vmem S32x256 .f32) (arg4 : Memref sig .tc .vmem S64x32x256 .f32)
  (arg5 : Memref sig .tc .vmem S2x2296x128 .f32) (arg6 : Memref sig .tc .vmem S2x2552x128 .f32)
  (x : Vec F S64x32x256 .f32) (w : Vec F S32x256x256 .f32) (bias : Vec F S32x256 .f32)

/-- Before input block `n`. -/
def InKept (n : ℕ) : sProp 𝕄 :=
  iprop(owns (c : Thread nD τ) arg1 fullShare x ∗ ∃ X, ⌜Spread x n X⌝ ∗ owns (c : Thread nD τ) arg5 fullShare X)

/-- Before product block `n`. -/
def DotKept (n : ℕ) : sProp 𝕄 :=
  iprop(owns (c : Thread nD τ) arg2 fullShare w ∗ owns (c : Thread nD τ) arg3 fullShare bias
    ∗ (∃ X, ⌜Spread x 64 X⌝ ∗ owns (c : Thread nD τ) arg5 fullShare X)
    ∗ ∃ X, ⌜Collected x w bias n X⌝ ∗ owns (c : Thread nD τ) arg6 fullShare X)

/-- Before output block `n`. -/
def OutKept (n : ℕ) : sProp 𝕄 :=
  iprop((∃ X, ⌜Collected x w bias 32 X⌝ ∗ owns (c : Thread nD τ) arg6 fullShare X)
    ∗ ∃ Y, ⌜Done x w bias n Y⌝ ∗ owns (c : Thread nD τ) arg4 fullShare Y)

theorem inBlock_runs (b : ℕ) (hb : b < 64) :
    InKept c arg1 arg5 x b ⊢ runs c (inBlock arg1 arg5 b hb) fun _ => InKept c arg1 arg5 x (b + 1) := by
  unfold InKept inBlock
  iintro ⟨H1, %X, %hX, H5⟩
  iapply (load_owns c) $$ H1
  iintro H1
  iapply (load_owns c) $$ H5
  iintro H5
  iapply (store_owns c) $$ H5
  iintro H5
  iapply (load_owns c) $$ H5
  iintro H5
  iapply (store_owns c) $$ H5
  iintro H5
  iapply (runs_ret c)
  isplitl [H1]; · iexact H1
  iexists _
  isplitr
  swap; · iexact H5
  ipureintro
  exact Spread.step (b := ⟨b, hb⟩) hX

theorem dotBlock_runs (g : ℕ) (hg : g < 32) :
    DotKept c arg2 arg3 arg5 arg6 x w bias g
      ⊢ runs c (dotBlock arg2 arg3 arg5 arg6 g hg) fun _ => DotKept c arg2 arg3 arg5 arg6 x w bias (g + 1) := by
  unfold DotKept dotBlock
  iintro ⟨H2, H3, ⟨%X, %hX, H5⟩, %Y, %hY, H6⟩
  iapply (load_owns c) $$ H5
  iintro H5
  iapply (load_owns c) $$ H5
  iintro H5
  iapply (load_owns c) $$ H2
  iintro H2
  iapply (load_owns c) $$ H3
  iintro H3
  iapply (load_owns c) $$ H6
  iintro H6
  iapply (store_owns c) $$ H6
  iintro H6
  iapply (load_owns c) $$ H6
  iintro H6
  iapply (store_owns c) $$ H6
  iintro H6
  iapply (runs_ret c)
  isplitl [H2]; · iexact H2
  isplitl [H3]; · iexact H3
  isplitl [H5]
  · iexists X
    isplitr
    · ipureintro; exact hX
    iexact H5
  iexists _
  isplitr
  swap; · iexact H6
  ipureintro
  have h := Collected.step (g := ⟨g, hg⟩) hY
  rw [← Spread.product w bias ⟨g, hg⟩ hX] at h
  exact h

theorem outBlock_runs (b : ℕ) (hb : b < 64) :
    OutKept c arg4 arg6 x w bias b ⊢ runs c (outBlock arg4 arg6 b hb) fun _ => OutKept c arg4 arg6 x w bias (b + 1) := by
  unfold OutKept outBlock
  iintro ⟨⟨%X, %hX, H6⟩, %Y, %hY, H4⟩
  iapply (load_owns c) $$ H6
  iintro H6
  iapply (load_owns c) $$ H6
  iintro H6
  iapply (load_owns c) $$ H4
  iintro H4
  iapply (store_owns c) $$ H4
  iintro H4
  iapply (runs_ret c)
  isplitl [H6]
  · iexists X
    isplitr
    · ipureintro; exact hX
    iexact H6
  iexists _
  isplitr
  swap; · iexact H4
  ipureintro
  exact Done.step (b := ⟨b, hb⟩) hX hY

/-- The body, from the three input blocks and any contents of the other buffers: the output ends at `tileOut`. -/
theorem body_runs (Q : PUnit → sProp 𝕄) :
    iprop(owns (c : Thread nD τ) arg1 fullShare x ∗ owns (c : Thread nD τ) arg2 fullShare w
      ∗ owns (c : Thread nD τ) arg3 fullShare bias ∗ (∃ d, owns (c : Thread nD τ) arg4 fullShare d)
      ∗ (∃ d, owns (c : Thread nD τ) arg5 fullShare d) ∗ (∃ d, owns (c : Thread nD τ) arg6 fullShare d)
      ∗ (owns (c : Thread nD τ) arg1 fullShare x ∗ owns (c : Thread nD τ) arg2 fullShare w
        ∗ owns (c : Thread nD τ) arg3 fullShare bias ∗ owns (c : Thread nD τ) arg4 fullShare (tileOut x w bias)
        ∗ (∃ d, owns (c : Thread nD τ) arg5 fullShare d) ∗ (∃ d, owns (c : Thread nD τ) arg6 fullShare d) -∗ Q ⟨⟩))
      ⊢ runs c (body arg1 arg2 arg3 arg4 arg5 arg6) Q := by
  iintro ⟨H1, H2, H3, ⟨%Y, H4⟩, ⟨%X5, H5⟩, ⟨%X6, H6⟩, HQ⟩
  unfold body
  iapply (runs_bind c)
  iapply (runs_wand c)
  isplitl [H1 H5]
  · iapply (sweep_runs c _ (InKept c arg1 arg5 x) (inBlock_runs c arg1 arg5 x) 64 0 rfl)
    unfold InKept
    isplitl [H1]; · iexact H1
    iexists X5
    isplitr
    · ipureintro; exact fun b g h o hb => absurd hb (Nat.not_lt_zero _)
    iexact H5
  iintro %u
  unfold InKept
  iintro ⟨H1, %Z5, %hZ5, H5⟩
  iapply (runs_bind c)
  iapply (runs_wand c)
  isplitl [H2 H3 H5 H6]
  · iapply (sweep_runs c _ (DotKept c arg2 arg3 arg5 arg6 x w bias) (dotBlock_runs c arg2 arg3 arg5 arg6 x w bias) 32 0 rfl)
    unfold DotKept
    isplitl [H2]; · iexact H2
    isplitl [H3]; · iexact H3
    isplitl [H5]
    · iexists Z5
      isplitr
      · ipureintro; exact hZ5
      iexact H5
    iexists X6
    isplitr
    · ipureintro; exact fun b g h o hg => absurd hg (Nat.not_lt_zero _)
    iexact H6
  iintro %u'
  unfold DotKept
  iintro ⟨H2, H3, ⟨%Z5', %hZ5', H5⟩, %Z6, %hZ6, H6⟩
  iapply (runs_wand c)
  isplitl [H4 H6]
  · iapply (sweep_runs c _ (OutKept c arg4 arg6 x w bias) (outBlock_runs c arg4 arg6 x w bias) 64 0 rfl)
    unfold OutKept
    isplitl [H6]
    · iexists Z6
      isplitr
      · ipureintro; exact hZ6
      iexact H6
    iexists Y
    isplitr
    · ipureintro; exact fun b g o hb => absurd hb (Nat.not_lt_zero _)
    iexact H4
  iintro %u''
  unfold OutKept
  iintro ⟨⟨%Z6', %hZ6', H6⟩, %Z4, %hZ4, H4⟩
  have e : Z4 = tileOut x w bias := by
    funext y
    rw [eq_ix3 y]
    exact hZ4 _ _ _ (y 0).2
  subst e
  iapply HQ
  isplitl [H1]; · iexact H1
  isplitl [H2]; · iexact H2
  isplitl [H3]; · iexact H3
  isplitl [H4]; · iexact H4
  isplitl [H5]; · iexists _; iexact H5
  iexists _; iexact H6

end Triples

end Cert.Proof

end
-- ==== Proof.Launch.lean ====
/- The launch, with the output's blocks known.

   The set-up every launch has — what each window's buffer holds after a grid point, the body's obligation at a generic
   point, the run — with `tileOut` of the point's three input blocks as what the body leaves in the output's buffer. -/
module

public import proofs.«01_k».proof.Proof.BodyRun
public import Idealize.ShloMosaic.Lib.Claim

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's buffer at point `t`. -/
def outTile (c : Dev nD) (t : Fin cfg0.N) : Vec F S64x32x256 .f32 :=
  tileOut (iblk m c 0 t) (iblk m c 1 t) (iblk m c 2 t)

/-- The pipeline's data: each input's buffer keeps its block, the output's ends at `outTile`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) : (dats m 0 c).after 3 t = outTile m c t := by dsimp only [dats]

theorem before_x (c : Dev nD) (t : Fin cfg0.N) (d) : (dats m 0 c).before 0 t d = iblk m c 0 t :=
  before0_0_of m (dats m 0 c) (dats_A m c 0) (after_x m c) t d
theorem before_w (c : Dev nD) (t : Fin cfg0.N) (d) : (dats m 0 c).before 1 t d = iblk m c 1 t :=
  before0_1_of m (dats m 0 c) (dats_A m c 1) (after_w m c) t d
theorem before_b (c : Dev nD) (t : Fin cfg0.N) (d) : (dats m 0 c).before 2 t d = iblk m c 2 t :=
  before0_2_of m (dats m 0 c) (dats_A m c 2) (after_b m c) t d

/-- What the body is called with at point `t`, window by window, -/
def pointPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it gives back. -/
def pointPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: `body_runs` at the point's buffers and blocks. -/
theorem point_runs (c : Dev nD) (t : Fin cfg0.N) :
    pointPre m c t ⊢ wp frame (wpE (defs₀ (F := F)) Variants.none c none) Set.univ (bodyAt0 t) fun _ => pointPost m c t := by
  unfold pointPre pointPost bodyAt0
  rw [body_eq]
  simp only [before_x, before_w, before_b]
  rw [show (dats m 0 c).Φ t.succ = (dats m 0 c).Φ t.castSucc from rfl,
    show (dats m 0 c).owesAt () t.succ = (dats m 0 c).owesAt () t.castSucc from rfl,
    after_x, after_w, after_b, after_out]
  rw [show (dats m 0 c).Φ t.castSucc = Pipeline.ΦA spec0 c from rfl, PhiA0_eq]
  unfold outTile
  iintro ⟨⟨⟨S0, S1⟩, Hg⟩, Ho, ⟨%d0, H0⟩, ⟨%d1, H1⟩, ⟨%d2, H2⟩, ⟨%d3, H3⟩⟩
  iapply (body_runs c _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  iintro ⟨H0, H1, H2, H3, S0, S1⟩
  isplitl [S0 S1 Hg]
  · isplitl [S0 S1]
    · isplitl [S0]
      · iexact S0
      iexact S1
    iexact Hg
  isplitl [Ho]; · iexact Ho
  isplitl [H0]; · iexact H0
  isplitl [H1]; · iexact H1
  isplitl [H2]; · iexact H2
  iexact H3

/-- The body table's row at point `t` is the body there. -/
theorem row_eq (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ :=
  fun t => by
    rw [bigSep_W0, bigSep_W0, row_eq]
    exact triple_restated (point_runs m c t) rfl .rfl fun _ => .rfl

set_option backward.isDefEq.respectTransparency.types false in
set_option maxHeartbeats 800000 in
/-- The run: every array of the pipeline ends at its blocks, every other buffer as the host lines leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := dats_A m) (hΦ := fun _ _ => rfl)

end Cert.Proof

end
-- ==== Proof.Result.lean ====
/- The result's array, and the reference's.

   Each side is one array, read at an index: the sum over the 256 input channels of the product of an input and a
   weight, plus a bias. The kernel multiplies input by weight, the reference weight by input. -/
module

public import proofs.«01_k».proof.Proof.Launch
public import Idealize.ShloMosaic.Lib.Pointwise
public import Idealize.ShloMosaic.Lib.Pipeline.ValueKit
public import Idealize.ShloMosaic.Lib.StableHlo.Run
public import proofs.«01_k».proof.Proof.Gen.ReferenceIdeal.Run

@[expose] public section

noncomputable section

namespace Cert.Proof

open Idealize.ShloMosaic Idealize.ShloMosaic.TcCoe Idealize.ShloMosaic.Tactic
open Idealize.ShloMosaic.StableHlo Idealize.SL.Sem
open Idealize.ShloMosaic.Pipeline (Dat)
open Cert.KernelIdeal Cert.KernelIdeal.Gen

/-- Every position's product, in channels-last layout: what the region is to leave in its result's array. -/
def products (x : FVec Ideal S64x1024x256 .f32) (w : FVec Ideal S1024x256x256 .f32) (b : FVec Ideal S1024x256 .f32) :
    FVec Ideal S64x1024x256 .f32 :=
  fun y => (∑ k : Fin 256, x (ix3 (y 0) (y 1) k) * w (ix3 (y 1) (y 2) k)) + b (ix2 (y 1) (y 2))

/-- A tile of the result, read at an index. -/
theorem tileOut_apply (x : FVec Ideal S64x32x256 .f32) (w : FVec Ideal S32x256x256 .f32) (b : FVec Ideal S32x256 .f32)
    (y : S64x32x256.Idx) :
    tileOut (F := Ideal) x w b y = (∑ k : Fin 256, x (ix3 (y 0) (y 1) k) * w (ix3 (y 1) (y 2) k)) + b (ix2 (y 1) (y 2)) := by
  pointwise [tileOut, positionProduct, positionRows, positionWeight, positionBias]

/-- Where the windows' blocks lie: point `t` has positions `32 t` to `32 t + 31`. -/
theorem index_x : ∀ t : Fin cfg0.N, win0_0.index t = ![0, (grid0.coords t 0).val, 0] :=
  (by decide +kernel : ∀ t : Fin grid0.N, _)
theorem index_w : ∀ t : Fin cfg0.N, win0_1.index t = ![(grid0.coords t 0).val, 0, 0] :=
  (by decide +kernel : ∀ t : Fin grid0.N, _)
theorem index_b : ∀ t : Fin cfg0.N, win0_2.index t = ![(grid0.coords t 0).val, 0] :=
  (by decide +kernel : ∀ t : Fin grid0.N, _)
theorem index_out : ∀ t : Fin cfg0.N, win0_3.index t = ![0, (grid0.coords t 0).val, 0] :=
  (by decide +kernel : ∀ t : Fin grid0.N, _)

variable (m : (ℓ : Loc nD τ sig) → Buf (Elt Ideal) ℓ) (ρ : Dev nD → PrngReg)

/-- The result's array after the region. -/
theorem array_out (c : Dev nD) :
    (dats m 0 c).arrAt 3 cfg0.N = products (V m c main_v1) (V m c main_arg1) (V m c main_arg2) := by
  refine (dats m 0 c).arrAt_eq_of_covers 3 _ (by decide +kernel) fun t hf y => ?_
  blk_simp
  rw [after_out, outTile, tileOut_apply]
  unfold products
  blk_point [iblk, index_x t, index_w t, index_b t, index_out t]

/-- The result after the host lines that follow the region. -/
theorem tail_out (c : Dev nD) :
    Pipeline.afterTail₀ cfgs (dats m) 0 (V0 m) [hostOps1] c main_v4
      = transpose S64x256x32x32 [0, 3, 1, 2] (shapeCast S64x32x32x256 ((dats m 0 c).arrAt 3 cfg0.N)
          shapeCasts_S64x1024x256_S64x32x32x256) transposes_S64x32x32x256_S64x256x32x32_0_3_1_2 := by
  unfold Pipeline.afterTail₀
  simp only [hostOps1, List.flatten_cons, List.flatten_nil, List.append_nil]
  after_results
  exact congrArg (fun a => transpose S64x256x32x32 [0, 3, 1, 2] (shapeCast S64x32x32x256 a
    shapeCasts_S64x1024x256_S64x32x32x256) transposes_S64x32x32x256_S64x256x32x32_0_3_1_2)
    (Pipeline.withArrays_arr spec0 launch0.win.arr_inj c (V0 m c) (fun w => (dats m 0 c).arrAt w cfg0.N) 3)

/-- The input's array when the region is entered. -/
theorem entry_x (c : Dev nD) :
    V m c main_v1 = shapeCast S64x1024x256 (transpose S64x32x32x256 [0, 2, 3, 1] (m ((c : Thread nD τ).loc main_arg0))
      transposes_S64x256x32x32_S64x32x32x256_0_2_3_1) shapeCasts_S64x32x32x256_S64x1024x256 := by
  entry_read
  rfl

/-- The reference's sum over all positions is `products`. -/
theorem reference_eq (x : FVec Ideal S64x1024x256 .f32) (w : FVec Ideal S1024x256x256 .f32)
    (b : FVec Ideal S1024x256 .f32) :
    addf (F := Ideal) (transpose S64x1024x256 [2, 0, 1]
        (Host.dotGeneral Cert.ReferenceIdeal.dot_S1024x256x256_S64x1024x256_S1024x256x64_2_2_1_0_0_1 none w x)
        Cert.ReferenceIdeal.Gen.transposes_S1024x256x64_S64x1024x256_2_0_1)
      (broadcastInDim S64x1024x256 ![0, 1, 2] Cert.ReferenceIdeal.Gen.bcast_S1x1024x256_S64x1024x256_0_1_2
        (broadcastInDim Cert.ReferenceIdeal.S1x1024x256 ![1, 2]
          Cert.ReferenceIdeal.Gen.bcast_S1024x256_S1x1024x256_1_2 b))
      = products x w b := by
  funext y
  pointwise [products]
  simp only [mul_comm]

/-- What both programs leave in the result. -/
def result (c : Dev nD) : FVec Ideal S64x256x32x32 .f32 :=
  transpose S64x256x32x32 [0, 3, 1, 2]
    (shapeCast S64x32x32x256
      (products
        (shapeCast S64x1024x256 (transpose S64x32x32x256 [0, 2, 3, 1] (m ((c : Thread nD τ).loc main_arg0))
          transposes_S64x256x32x32_S64x32x32x256_0_2_3_1) shapeCasts_S64x32x32x256_S64x1024x256)
        (m ((c : Thread nD τ).loc main_arg1)) (m ((c : Thread nD τ).loc main_arg2)))
      shapeCasts_S64x1024x256_S64x32x32x256) transposes_S64x32x32x256_S64x256x32x32_0_3_1_2

/-- The kernel's run: the result, and the arguments unchanged. -/
theorem kernel_run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hv := (θ_run defs _ _).mono (fun r h (c : Dev nD) =>
    (h c).2 main_v4 (Pipeline.mem_restRefs_of main_v4 (by decide) (by decide))) (run_main m ρ)
  have hf := frame_of m ρ (dats m) (dats_A m) (run_main m ρ)
  refine (θ_run defs _ _).mono (fun r h c => ⟨(h.1 c).trans ?_, h.2 c⟩) (θ_run_and hv hf)
  rw [tail_out, array_out, entry_x, V_main_arg1, V_main_arg2]
  rfl

/-- The reference's run, from equal arguments: the same result, and its arguments unchanged. -/
theorem reference_run
    (m' : (ℓ : Loc Cert.ReferenceIdeal.nD Cert.ReferenceIdeal.τ Cert.ReferenceIdeal.sig) → Buf (Elt Ideal) ℓ)
    (ρ' : Dev Cert.ReferenceIdeal.nD → PrngReg)
    (h : ∀ c : Dev nD,
      m' ((c.tc : Thread Cert.ReferenceIdeal.nD Cert.ReferenceIdeal.τ).loc Cert.ReferenceIdeal.main_arg0)
          = m ((c.tc : Thread nD τ).loc main_arg0)
        ∧ m' ((c.tc : Thread Cert.ReferenceIdeal.nD Cert.ReferenceIdeal.τ).loc Cert.ReferenceIdeal.main_arg1)
          = m ((c.tc : Thread nD τ).loc main_arg1)
        ∧ m' ((c.tc : Thread Cert.ReferenceIdeal.nD Cert.ReferenceIdeal.τ).loc Cert.ReferenceIdeal.main_arg2)
          = m ((c.tc : Thread nD τ).loc main_arg2)) :
    θ_run (Cert.ReferenceIdeal.defs (F := Ideal))
      (onTc (τ := Cert.ReferenceIdeal.τ) (Cert.ReferenceIdeal.main (F := Ideal))) ⟨m', fun _ => 0, ρ'⟩
      fun r => ∀ c : Dev Cert.ReferenceIdeal.nD,
        r.2.mem ((c.tc : Thread Cert.ReferenceIdeal.nD Cert.ReferenceIdeal.τ).loc Cert.ReferenceIdeal.main_v8)
            = result m c
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m' ((c.tc : Thread Cert.ReferenceIdeal.nD Cert.ReferenceIdeal.τ).loc Cert.ReferenceIdeal.main_arg2) := by
  refine (θ_run Cert.ReferenceIdeal.defs _ _).mono (fun r hr c => ⟨(hr c).1.trans ?_, (hr c).2⟩)
    (Cert.ReferenceIdeal.Value.run (F := Ideal) m' ρ')
  obtain ⟨h0, h1, h2⟩ := h c
  rw [h0, h1, h2]
  exact congrArg (fun a => transpose S64x256x32x32 [0, 3, 1, 2] (shapeCast S64x32x32x256 a
    shapeCasts_S64x1024x256_S64x32x32x256) transposes_S64x32x32x256_S64x256x32x32_0_3_1_2)
    (reference_eq _ _ _)

end Cert.Proof

end
-- ==== Proof.lean ====
/- The certificate: the three programs' frames, the kernel against its idealization, and the kernel's result against
   the reference's. The kernel's mathematics is in Proof/: Program (the body as three sweeps), Memory (loads and
   stores), Values (what a block computes), Blocks (what a sweep keeps), BodyRun (the body's triple), Launch (the run)
   and Result (the two results are one). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference terminates and leaves its arguments alone: its run read at them; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Over the idealized arithmetic the kernel's result is the reference's, from equal arguments. -/
theorem algebraic : Cert.algebraic_KernelIdeal_ReferenceIdeal (hKernelIdeal := Cert.KernelIdeal.Gen.facts)
    (hReferenceIdeal := Cert.ReferenceIdeal.Gen.facts) := fun m g m' g' _ h =>
  ⟨result m, kernel_run m g, reference_run m m' g' h⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference,
  trivial,
  algebraic⟩

end Cert.Proof

end
